-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_first_columns [hPre_first_columns : Cert.Pre_first_columns.Facts] (m : (ℓ : Loc Cert.KernelIdeal.nD Cert.KernelIdeal.τ Cert.KernelIdeal.sig) → Buf (Elt Ideal) ℓ) : Prop :=
  ∀ c : Dev Cert.KernelIdeal.nD,
    (Cert.Pre_first_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_first_columns [hPre_first_columns : Cert.Pre_first_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_first_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_first_columns [hKernelIdeal : Cert.KernelIdeal.Facts] [hPre_first_columns : Cert.Pre_first_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_first_columns m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_first_columns [hReferenceIdeal : Cert.ReferenceIdeal.Facts] [hPre_first_columns : Cert.Pre_first_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_first_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_first_columns [hKernelIdeal : Cert.KernelIdeal.Facts] [hReferenceIdeal : Cert.ReferenceIdeal.Facts] [hPre_first_columns : Cert.Pre_first_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_first_columns m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_first_columns : Cert.Pre_first_columns.Facts),
    quiescent_Kernel (hKernel := hKernel)
    ∧ quiescent_KernelIdeal (hKernelIdeal := hKernelIdeal)
    ∧ quiescent_KernelIdeal_pre_first_columns (hKernelIdeal := hKernelIdeal) (hPre_first_columns := hPre_first_columns)
    ∧ quiescent_ReferenceIdeal (hReferenceIdeal := hReferenceIdeal)
    ∧ quiescent_ReferenceIdeal_pre_first_columns (hReferenceIdeal := hReferenceIdeal) (hPre_first_columns := hPre_first_columns)
    ∧ preserves_Kernel_KernelIdeal
    ∧ algebraic_KernelIdeal_ReferenceIdeal_pre_first_columns (hKernelIdeal := hKernelIdeal) (hReferenceIdeal := hReferenceIdeal) (hPre_first_columns := hPre_first_columns)
-- ==== Pre_first_columns.lean ====
abbrev S50000x256 : Shape := ⟨2, ![50000, 256]⟩
abbrev S16 : Shape := ⟨1, ![16]⟩
abbrev S_ : Shape := ⟨0, ![]⟩

class Facts : Prop where
  reducesTo_S16_S_d0 : S16.ReducesTo [0] S_
  h_S_ : 0 < S_.numel

variable [Facts]

def fn {F : FTy → Type} [FloatOps F] (main_arg0 : FVec F S50000x256 .f32) (main_arg1 : FVec F S16 .f32) (main_arg2 : FVec F S16 .f32) (main_arg3 : IVec S16 32) : IVec S_ 1 :=
  let main_v0 : IVec S16 32 := iotaInDim S16 32 0
  let main_v1 : IVec S16 1 := cmpi .eq main_arg3 main_v0
  let main_c : IVec S_ 1 := constantI S_ 1 1#1
  let main_v2 : IVec S_ 1 := (fun x v => Host.reduce IntOp.andi x v reducesTo_S16_S_d0 h_S_) main_v1 main_c
  main_v2
-- ==== Kernel.lean ====
abbrev S50000x256 : Shape := ⟨2, ![50000, 256]⟩
abbrev S16 : Shape := ⟨1, ![16]⟩
abbrev S1x16 : Shape := ⟨2, ![1, 16]⟩
abbrev S1000x256 : Shape := ⟨2, ![1000, 256]⟩
abbrev S1000x1 : Shape := ⟨2, ![1000, 1]⟩
abbrev S1000x16 : Shape := ⟨2, ![1000, 16]⟩
abbrev S1000x240 : Shape := ⟨2, ![1000, 240]⟩

abbrev nBuf : Space → Nat
  | .hbm => 7
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S16, .f32⟩
  | .hbm, ⟨2, _⟩ => ⟨S16, .f32⟩
  | .hbm, ⟨3, _⟩ => ⟨S16, .i32⟩
  | .hbm, ⟨4, _⟩ => ⟨S1x16, .f32⟩
  | .hbm, ⟨5, _⟩ => ⟨S1x16, .f32⟩
  | .hbm, ⟨6, _⟩ => ⟨S50000x256, .f32⟩
  | .local _ .vmem, ⟨0, _⟩ => ⟨S1000x256, .f32⟩
  | .local _ .vmem, ⟨1, _⟩ => ⟨S1000x256, .f32⟩
  | .local _ .vmem, ⟨2, _⟩ => ⟨S1x16, .f32⟩
  | .local _ .vmem, ⟨3, _⟩ => ⟨S1x16, .f32⟩
  | .local _ .vmem, ⟨4, _⟩ => ⟨S1000x256, .f32⟩
  | .local _ .vmem, ⟨5, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S50000x256 : Shape := ⟨2, ![50000, 256]⟩
abbrev S16 : Shape := ⟨1, ![16]⟩
abbrev S_ : Shape := ⟨0, ![]⟩
abbrev S16x1 : Shape := ⟨2, ![16, 1]⟩
abbrev S50000x16 : Shape := ⟨2, ![50000, 16]⟩
abbrev S1x16 : Shape := ⟨2, ![1, 16]⟩

abbrev nBuf : Space → Nat
  | .hbm => 29
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S16, .f32⟩
  | .hbm, ⟨2, _⟩ => ⟨S16, .f32⟩
  | .hbm, ⟨3, _⟩ => ⟨S16, .i32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i1⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S16, .i32⟩
  | .hbm, ⟨12, _⟩ => ⟨S16x1, .i32⟩
  | .hbm, ⟨13, _⟩ => ⟨S50000x16, .f32⟩
  | .hbm, ⟨14, _⟩ => ⟨S1x16, .f32⟩
  | .hbm, ⟨15, _⟩ => ⟨S50000x16, .f32⟩
  | .hbm, ⟨16, _⟩ => ⟨S50000x16, .f32⟩
  | .hbm, ⟨17, _⟩ => ⟨S1x16, .f32⟩
  | .hbm, ⟨18, _⟩ => ⟨S50000x16, .f32⟩
  | .hbm, ⟨19, _⟩ => ⟨S50000x16, .f32⟩
  | .hbm, ⟨20, _⟩ => ⟨S_, .i32⟩
  | .hbm, ⟨21, _⟩ => ⟨S16, .i32⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S16x1, .i32⟩
  | .hbm, ⟨28, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Scaler.Spec.lean ====
/-
  THE FUNCTION that kernel and reference compute over the extended reals, index by index: of a matrix of 50000 rows and
  256 columns the first 16 columns are overwritten. Column `c < 16` becomes `(x[r, (256 − c) mod 256] − mean[c]) / scale[c]`
  (column `−c`, counted from the end), the other columns stay.
-/
module

public import Idealize.ShloMosaic.PureOps.Ideal

@[expose] public section

noncomputable section

namespace Cert.Scaler

open Idealize.ShloMosaic

/-- A matrix of `R` rows and 256 columns. -/
abbrev Mat (R : Nat) : Shape := ⟨2, ![R, 256]⟩
/-- A vector of 16 numbers, one per overwritten column. -/
abbrev Sel : Shape := ⟨1, ![16]⟩

/-- The matrix index of row `r` and column `c`. -/
def cell {R : Nat} (r : Fin R) (c : Fin 256) : (Mat R).Idx := fun a => match a with | ⟨0, _⟩ => r | ⟨1, _⟩ => c
/-- The vector index `k`. -/
def lane (k : Fin 16) : Sel.Idx := fun a => match a with | ⟨0, _⟩ => k

/-- The column that column `c` is computed from: `−c`, counted from the end. -/
def source (c : Nat) : Fin 256 := ⟨(256 - c) % 256, Nat.mod_lt _ (by decide)⟩

/-- THE FUNCTION, of a matrix of `R` rows: columns 0 to 15 are the scaled source columns, the others the matrix's own. -/
def scaled {R : Nat} (x : (Mat R).Idx → Ideal .f32) (mean scale : Fin 16 → Ideal .f32) : (Mat R).Idx → Ideal .f32 := fun i =>
  if h : (i 1).val < 16 then
    Ideal.div (x (cell (i 0) (source (i 1).val)) - mean ⟨(i 1).val, h⟩) (scale ⟨(i 1).val, h⟩)
  else x i

/-- An index is the cell of its two coordinates. -/
theorem cell_eta {R : Nat} (i : (Mat R).Idx) : cell (i 0) (i 1) = i :=
  funext fun a => match a with | ⟨0, _⟩ => rfl | ⟨1, _⟩ => rfl

/-- The function works row by row: of some rows of a matrix it is those rows of the function of the matrix. -/
theorem scaled_rows {R R' : Nat} (f : Fin R' → Fin R) (x : (Mat R).Idx → Ideal .f32) (x' : (Mat R').Idx → Ideal .f32)
    (h : ∀ r c, x' (cell r c) = x (cell (f r) c)) (mean scale : Fin 16 → Ideal .f32) (i : (Mat R').Idx) :
    scaled x' mean scale i = scaled x mean scale (cell (f (i 0)) (i 1)) := by
  by_cases h1 : (i 1).val < 16
  · refine (dif_pos h1).trans (Eq.trans ?_ (dif_pos (c := (cell (f (i 0)) (i 1) 1).val < 16) h1).symm)
    exact congrArg (fun z => Ideal.div (z - mean ⟨(i 1).val, h1⟩) (scale ⟨(i 1).val, h1⟩)) (h (i 0) (source (i 1).val))
  · refine (dif_neg h1).trans (Eq.trans ?_ (dif_neg (c := (cell (f (i 0)) (i 1) 1).val < 16) h1).symm)
    exact (congrArg x' (cell_eta i)).symm.trans (h (i 0) (i 1))

end Cert.Scaler

end
-- ==== Proof.Scaler.Block.lean ====
/-
  WHAT ONE GRID POINT COMPUTES: the value that the kernel's body stores, of the three blocks it loads, is the function
  `scaled` of the block's 1000 rows.
-/
module

public import proofs.«01_k».proof.Proof.Gen.KernelIdeal.Skeleton
public import proofs.«01_k».proof.Proof.Scaler.Spec
public import Idealize.ShloMosaic.Lib.Pointwise

@[expose] public section

noncomputable section

namespace Cert.Scaler

open Idealize.ShloMosaic Cert.KernelIdeal Cert.KernelIdeal.Gen

/-- A block's source columns, one piece of width one per overwritten column. -/
def piece (x : Vec Ideal S1000x256 .f32) (n : Fin 16) : FVec Ideal S1000x1 .f32 := fun p => x (cell (p 0) (source n.val))

/-- Column `c` of a block, as a slice, has at every row the block's entry in that column. -/
theorem slice_eq (x : Vec Ideal S1000x256 .f32) (n : Fin 16) (c : Nat) (h : S1000x256.Slices ![0, c] S1000x1)
    (hc : c = (source n.val).val) : extractStridedSlice S1000x1 ![0, c] x h = piece x n := by
  funext p
  refine congrArg x (funext fun a => ?_)
  subst hc
  match a with
  | ⟨0, _⟩ => exact Fin.ext (Nat.zero_add _)
  | ⟨1, _⟩ => exact Fin.ext (by have h1 : (p 1).val < 1 := (p 1).isLt; show (source n.val).val + (p 1).val = (source n.val).val; omega)

/-- The 1000 by 16 array of the source columns, as the kernel concatenates it. -/
def columns (x : Vec Ideal S1000x256 .f32) : FVec Ideal S1000x16 .f32 :=
  concatenate S1000x16 1 (List.ofFn fun n : Fin 16 => (⟨S1000x1, piece x n⟩ : (s : Shape) × (s.Idx → Ideal .f32)))
    concatenates_S1000x1_S1000x1_S1000x1_S1000x1_S1000x1_S1000x1_S1000x1_S1000x1_S1000x1_S1000x1_S1000x1_S1000x1_S1000x1_S1000x1_S1000x1_S1000x1_S1000x16_d1

/-- Its entry in column `k` is the block's entry in the source column of `k`. -/
theorem columns_apply (x : Vec Ideal S1000x256 .f32) (j : S1000x16.Idx) :
    columns x j = x (cell (j 0) (source (j 1).val)) :=
  concatenate_ofFn_unit_apply (t := S1000x16) (s₁ := S1000x1) 1 (piece x) _ rfl rfl j (j 1) rfl
    (fun a => match a with | ⟨0, _⟩ => j 0 | ⟨1, _⟩ => (0 : Fin 1))
    (fun b hb => match b with | ⟨0, _⟩ => rfl | ⟨1, _⟩ => absurd rfl hb)

/-- The kernel's stored value, its source columns read. -/
theorem stored_eq (x : Vec Ideal S1000x256 .f32) (mean scale : Vec Ideal S1x16 .f32) :
    k0_pay1 x mean scale = concatenate S1000x256 1
      [⟨S1000x16, divf (subf (columns x) (broadcastTo S1000x16 (shapeCast S1x16 (shapeCast S16 mean shapeCasts_S1x16_S16) shapeCasts_S16_S1x16) broadcasts_S1x16_S1000x16))
        (broadcastTo S1000x16 (shapeCast S1x16 (shapeCast S16 scale shapeCasts_S1x16_S16) shapeCasts_S16_S1x16) broadcasts_S1x16_S1000x16)⟩,
       ⟨S1000x240, extractStridedSlice S1000x240 ![0, 16] x slices_S1000x256_o0_16_S1000x240⟩]
      concatenates_S1000x16_S1000x240_S1000x256_d1 := by
  unfold k0_pay1
  rw [slice_eq x 0 0 _ rfl, slice_eq x 1 255 _ rfl, slice_eq x 2 254 _ rfl, slice_eq x 3 253 _ rfl,
    slice_eq x 4 252 _ rfl, slice_eq x 5 251 _ rfl, slice_eq x 6 250 _ rfl, slice_eq x 7 249 _ rfl,
    slice_eq x 8 248 _ rfl, slice_eq x 9 247 _ rfl, slice_eq x 10 246 _ rfl, slice_eq x 11 245 _ rfl,
    slice_eq x 12 244 _ rfl, slice_eq x 13 243 _ rfl, slice_eq x 14 242 _ rfl, slice_eq x 15 241 _ rfl]
  rfl

/-- A vector of 16 numbers spread over the rows has in column `k` its entry `k`. -/
theorem spread_apply (y : Vec Ideal S1x16 .f32) (j : S1000x16.Idx) :
    broadcastTo S1000x16 (shapeCast S1x16 (shapeCast S16 y shapeCasts_S1x16_S16) shapeCasts_S16_S1x16)
      broadcasts_S1x16_S1000x16 j = y (ix2 0 (j 1)) := by
  idx_vars j
  pointwise

/-- THE BLOCK: the stored value is the function `scaled` of the loaded rows, means and scales. -/
theorem stored_apply (x : Vec Ideal S1000x256 .f32) (mean scale : Vec Ideal S1x16 .f32) :
    k0_pay1 x mean scale = scaled (R := 1000) x (fun k => mean (ix2 0 k)) (fun k => scale (ix2 0 k)) := by
  funext j
  rw [stored_eq]
  unfold scaled
  by_cases h : (j 1).val < 16
  · rw [dif_pos h]
    refine (concatenate_pair_apply_left (t := S1000x256) (s₁ := S1000x16) (s₂ := S1000x240) 1 _ _ _ j rfl
      (fun a => match a with | ⟨0, _⟩ => j 0 | ⟨1, _⟩ => (⟨(j 1).val, h⟩ : Fin 16))
      (fun b => match b with | ⟨0, _⟩ => rfl | ⟨1, _⟩ => rfl)).trans ?_
    show Ideal.div (columns x _ - broadcastTo _ _ _ _) (broadcastTo _ _ _ _) = _
    rw [columns_apply, spread_apply, spread_apply]
  · rw [dif_neg h]
    have h1 : (j 1).val < 256 := (j 1).isLt
    refine (concatenate_pair_apply_right (t := S1000x256) (s₁ := S1000x16) (s₂ := S1000x240) 1 _ _ _ j rfl rfl
      (fun a => match a with | ⟨0, _⟩ => j 0 | ⟨1, _⟩ => (⟨(j 1).val - 16, by omega⟩ : Fin 240))
      (fun b hb => match b with | ⟨0, _⟩ => rfl | ⟨1, _⟩ => absurd rfl hb)
      (by show (j 1).val - 16 + 16 = (j 1).val; omega)).trans ?_
    refine congrArg x (funext fun a => ?_)
    match a with
    | ⟨0, _⟩ => exact Fin.ext (Nat.zero_add _)
    | ⟨1, _⟩ => exact Fin.ext (by show 16 + ((j 1).val - 16) = (j 1).val; omega)

end Cert.Scaler

end
-- ==== Proof.Scaler.Array.lean ====
/-
  WHAT THE KERNEL'S RESULT ARRAY HOLDS after the run: the function `scaled` of the argument matrix, means and scales. Grid
  point `t` writes rows `1000 t` to `1000 t + 999`, computed of the same rows of the argument, and the 50 points' blocks
  cover the array.
-/
module

public import proofs.«01_k».proof.Proof.Gen.KernelIdeal.Value
public import proofs.«01_k».proof.Proof.Scaler.Block
public import Idealize.ShloMosaic.Lib.Pipeline.Value
public import Idealize.ShloMosaic.Lib.StableHlo.ReadAt

@[expose] public section

noncomputable section

namespace Cert.Scaler

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The result array of device `c`: the function `scaled` of its three float arguments. -/
def result (c : Dev nD) : Buf (Elt Ideal) ((c : Thread nD τ).loc main_v2) :=
  scaled (R := 50000) (m ((c : Thread nD τ).loc main_arg0)) (fun k => m ((c : Thread nD τ).loc main_arg1) (lane k))
    (fun k => m ((c : Thread nD τ).loc main_arg2) (lane k))

theorem off_zero : (![0, 0] : Fin 2 → Nat) = fun _ => 0 := funext fun a => by fin_cases a <;> rfl

/-- Block `t` of the matrix and of the result starts at row `1000 t`, column 0. -/
theorem start_rows : ∀ t : Fin cfg0.N, win0_0.index t = ![t.val, 0] ∧ win0_3.index t = ![t.val, 0] :=
  (by decide +kernel : ∀ t : Fin grid0.N, win0_0.index t = ![t.val, 0] ∧ win0_3.index t = ![t.val, 0])

/-- The row of the matrix that is row `r` of block `t`. -/
def row (t : Fin cfg0.N) (r : Fin 1000) : Fin 50000 :=
  ⟨t.val * 1000 + r.val, by have h : t.val < 50 := t.isLt.trans_eq N_0; have := r.isLt; omega⟩

/-- The means as the kernel's launch receives them: the argument, as one row. -/
theorem mean_at (c : Dev nD) (k : Fin 16) :
    (V m c main_v0 : S1x16.Idx → Ideal .f32) (ix2 0 k) = m ((c : Thread nD τ).loc main_arg1) (lane k) := by
  unfold V
  after_reads_at
  exact congrArg (m ((c : Thread nD τ).loc main_arg1)) (funext fun a => match a with | ⟨0, _⟩ => rfl)

/-- The scales as the kernel's launch receives them: the argument, as one row. -/
theorem scale_at (c : Dev nD) (k : Fin 16) :
    (V m c main_v1 : S1x16.Idx → Ideal .f32) (ix2 0 k) = m ((c : Thread nD τ).loc main_arg2) (lane k) := by
  unfold V
  after_reads_at
  exact congrArg (m ((c : Thread nD τ).loc main_arg2)) (funext fun a => match a with | ⟨0, _⟩ => rfl)

/-- Point `t` loads rows `1000 t` onwards of the matrix, -/
theorem block_rows (c : Dev nD) (t : Fin cfg0.N) (r : Fin 1000) (k : Fin 256) :
    (iblk m c 0 t : S1000x256.Idx → Ideal .f32) (cell r k) = m ((c : Thread nD τ).loc main_arg0) (cell (row t r) k) := by
  show V m c main_arg0 _ = _
  rw [V_main_arg0]
  refine congrArg (m ((c : Thread nD τ).loc main_arg0)) (funext fun a => ?_)
  match a with
  | ⟨0, _⟩ => exact Fin.ext ((win0_0.rect_emb_val t (cell r k) 0 rfl).trans (by rw [(start_rows t).1]; rfl))
  | ⟨1, _⟩ => exact Fin.ext (win0_0.rect_emb_val_of_index_zero t 1 (by rw [(start_rows t).1]; rfl) (cell r k))

/-- all the means -/
theorem block_mean (c : Dev nD) (t : Fin cfg0.N) (k : Fin 16) :
    (iblk m c 1 t : S1x16.Idx → Ideal .f32) (ix2 0 k) = m ((c : Thread nD τ).loc main_arg1) (lane k) := by
  rw [← mean_at m c k]
  refine congrArg (V m c main_v0) (funext fun a => ?_)
  match a with
  | ⟨0, _⟩ => exact Fin.ext (win0_1.rect_emb_val_of_index_zero t 0 rfl (ix2 0 k))
  | ⟨1, _⟩ => exact Fin.ext (win0_1.rect_emb_val_of_index_zero t 1 rfl (ix2 0 k))

/-- and all the scales. -/
theorem block_scale (c : Dev nD) (t : Fin cfg0.N) (k : Fin 16) :
    (iblk m c 2 t : S1x16.Idx → Ideal .f32) (ix2 0 k) = m ((c : Thread nD τ).loc main_arg2) (lane k) := by
  rw [← scale_at m c k]
  refine congrArg (V m c main_v1) (funext fun a => ?_)
  match a with
  | ⟨0, _⟩ => exact Fin.ext (win0_2.rect_emb_val_of_index_zero t 0 rfl (ix2 0 k))
  | ⟨1, _⟩ => exact Fin.ext (win0_2.rect_emb_val_of_index_zero t 1 rfl (ix2 0 k))

/-- What point `t` writes back is block `t` of the result. -/
theorem flushed_eq (c : Dev nD) (t : Fin cfg0.N) :
    (dats m 0 c).flushed 3 t = (win0_3.blk t).view.read (Elt Ideal) (result m c) := by
  rw [Cert.KernelIdeal.Value.flushed3]
  unfold out0_3
  rw [View.canon_unit_zero off_zero, View.ld_unit_zero off_zero, View.ld_unit_zero off_zero, View.ld_unit_zero off_zero]
  rw [stored_apply, funext (block_mean m c t), funext (block_scale m c t)]
  funext j
  refine (scaled_rows (row t) (m ((c : Thread nD τ).loc main_arg0)) (iblk m c 0 t) (block_rows m c t) _ _ j).trans ?_
  refine congrArg (result m c) (funext fun a => ?_)
  match a with
  | ⟨0, _⟩ => exact (Fin.ext ((win0_3.rect_emb_val t j 0 rfl).trans (by rw [(start_rows t).2]; rfl))).symm
  | ⟨1, _⟩ => exact (Fin.ext (win0_3.rect_emb_val_of_index_zero t 1 (by rw [(start_rows t).2]; rfl) j)).symm

/-- Every index of the result array is in some point's block: row `r` in that of point `r / 1000`. -/
theorem cover (i : S50000x256.Idx) :
    ∃ t : Fin cfg0.N, (cfg0.win 3).flush t = true ∧ i ∈ ((cfg0.win 3).blk t).view.set := by
  have h0 : (i 0).val < 50000 := (i 0).isLt
  have h1 : (i 1).val < 256 := (i 1).isLt
  have hN : cfg0.N = 50 := N_0
  refine ⟨⟨(i 0).val / 1000, by omega⟩, flush0_3 _, ?_⟩
  generalize ht : (⟨(i 0).val / 1000, _⟩ : Fin cfg0.N) = t
  have hv : t.val = (i 0).val / 1000 := by rw [← ht]
  show i ∈ ((View.whole main_v2).slice (win0_3.rect t)).set
  rw [View.set_slice_whole, Rect.mem_set_unit]
  intro a
  match a with
  | ⟨0, _⟩ =>
    show win0_3.index t 0 * 1000 ≤ (i 0).val ∧ (i 0).val < win0_3.index t 0 * 1000 + 1000
    rw [(start_rows t).2]
    show t.val * 1000 ≤ (i 0).val ∧ (i 0).val < t.val * 1000 + 1000
    omega
  | ⟨1, _⟩ =>
    show win0_3.index t 1 * 256 ≤ (i 1).val ∧ (i 1).val < win0_3.index t 1 * 256 + 256
    rw [(start_rows t).2]
    show 0 * 256 ≤ (i 1).val ∧ (i 1).val < 0 * 256 + 256
    omega

/-- So the array ends holding the result, -/
theorem array_eq (c : Dev nD) : (dats m 0 c).arrAt 3 cfg0.N = result m c :=
  (dats m 0 c).arrAt_eq_of_cover 3 (result m c) (fun t _ => flushed_eq m c t) cover

/-- and the kernel's run leaves the result in its result array and its arguments unchanged. -/
theorem kernel_run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (array_eq m c), (h c).2⟩) (Cert.KernelIdeal.Value.run_blocks m ρ)

end Cert.Scaler

end
-- ==== Proof.Scaler.Reference.lean ====
/-
  WHAT THE REFERENCE COMPUTES where the column numbers are 0 to 15 in order: the function `scaled`. It takes the columns
  `−inds` of the matrix (a gather), subtracts the means, divides by the scales, and sets the columns `inds` to the outcome
  (a scatter).
-/
module

public import proofs.«01_k».proof.Proof.Gen.ReferenceIdeal.Run
public import proofs.«01_k».proof.Proof.Gen.ReferenceIdeal
public import proofs.«01_k».proof.Proof.Scaler.Spec
public import Idealize.ShloMosaic.Lib.Routing.OpsSet

@[expose] public section

noncomputable section

namespace Cert.Scaler.Ref

open Idealize.ShloMosaic Idealize.ShloMosaic.TcCoe Cert.ReferenceIdeal Cert.ReferenceIdeal.Gen

/-- The index of word `k` in a column of 16 index words. -/
def word (k : Fin 16) : S16x1.Idx := fun a => match a with | ⟨0, _⟩ => k | ⟨1, _⟩ => (0 : Fin 1)
/-- The index of row `r` and column `k` in an array of 16 columns. -/
def entry (r : Fin 50000) (k : Fin 16) : S50000x16.Idx := fun a => match a with | ⟨0, _⟩ => r | ⟨1, _⟩ => k

/-- An index is the entry of its two coordinates. -/
theorem entry_eta (j : S50000x16.Idx) : entry (j 0) (j 1) = j := funext fun a => match a with | ⟨0, _⟩ => rfl | ⟨1, _⟩ => rfl

/-- THE GATHER: its column `k` is the matrix's column `s` where index word `k` is `s`. -/
theorem gather_apply (x : S50000x256.Idx → Ideal .f32) (idx : IVec S16x1 32) (r : Fin 50000) (k : Fin 16) (s : Fin 256)
    (h : (idx (word k)).toInt = (s.val : Int)) :
    Host.gather gather_S50000x256_S16x1_S50000x16_0_1_n_n_1_1_500001 x idx (entry r k) = x (cell r s) := by
  generalize hd : gather_S50000x256_S16x1_S50000x16_0_1_n_n_1_1_500001 = d
  have hs : ∀ c, d.siIdx (entry r k) c = word k := by
    subst hd
    intro c
    funext b
    match b with
    | ⟨0, _⟩ => rfl
    | ⟨1, _⟩ => exact Subsingleton.elim (α := Fin 1) _ _
  refine congrArg x (funext fun a => Fin.ext ?_)
  match a with
  | ⟨0, _⟩ =>
    show d.start (entry r k) idx 0 + d.batchCoord (entry r k) 0 + d.offCoord (entry r k) 0 = r.val
    subst hd
    exact (Nat.zero_add _)
  | ⟨1, _⟩ =>
    show d.start (entry r k) idx 1 + d.batchCoord (entry r k) 1 + d.offCoord (entry r k) 1 = s.val
    have hm : (1 : Fin 2) ∈ d.startIndexMap := by subst hd; exact List.mem_singleton.2 rfl
    have hsl : d.sliceSizes 1 = 1 := by subst hd; rfl
    have hb : d.batchCoord (entry r k) 1 = 0 := by subst hd; rfl
    have ho : d.offCoord (entry r k) 1 = 0 := by subst hd; rfl
    rw [hb, ho]
    unfold GatherDims.start
    rw [dif_pos hm, hs, h, hsl]
    show min (s.val : Int).toNat (256 - 1) + 0 + 0 = s.val
    omega

/-- THE SCATTER's update `(r, k)` lands at the index of row `r` whose column is index word `k`. -/
theorem lands (idx : IVec S16x1 32) (r : Fin 50000) (k : Fin 16) (i : S50000x256.Idx) :
    scatter_S50000x256_S16x1_S50000x16_0_1_1_1.resultIdx? (entry r k) idx = some i
      ↔ r.val = (i 0).val ∧ (idx (word k)).toInt = ((i 1).val : Int) := by
  rw [Routing.resultIdx?_eq_some]
  generalize hd : scatter_S50000x256_S16x1_S50000x16_0_1_1_1 = d
  have hs : ∀ c, d.siIdx (entry r k) c = word k := by
    subst hd
    intro c
    funext b
    match b with
    | ⟨0, _⟩ => rfl
    | ⟨1, _⟩ => exact Subsingleton.elim (α := Fin 1) _ _
  have hm : (1 : Fin 2) ∈ d.scatterDimsToOperandDims := by subst hd; exact List.mem_singleton.2 rfl
  have h0 : d.start (entry r k) idx 0 = 0 := by subst hd; rfl
  have h1 : d.start (entry r k) idx 1 = (idx (word k)).toInt := by
    unfold ScatterDims.start
    rw [dif_pos hm, hs]
  have w0 : d.window (entry r k) 0 = r.val := by subst hd; rfl
  have w1 : d.window (entry r k) 1 = 0 := by subst hd; rfl
  constructor
  · intro h
    have e0 := h 0
    have e1 := h 1
    rw [h0, w0] at e0
    rw [h1, w1] at e1
    omega
  · rintro ⟨e0, e1⟩ a
    match a with
    | ⟨0, _⟩ => show d.start (entry r k) idx 0 + (d.window (entry r k) 0 : Int) = ((i 0).val : Int); rw [h0, w0]; omega
    | ⟨1, _⟩ => show d.start (entry r k) idx 1 + (d.window (entry r k) 1 : Int) = ((i 1).val : Int); rw [h1, w1]; omega

/-- Where the 16 index words are 0 to 15 the scatter sets columns 0 to 15 and keeps the others. -/
theorem scatter_apply (x : S50000x256.Idx → Ideal .f32) (idx : IVec S16x1 32) (upd : S50000x16.Idx → Ideal .f32)
    (h : ∀ k, (idx (word k)).toInt = (k.val : Int)) (i : S50000x256.Idx) :
    Host.scatter scatter_S50000x256_S16x1_S50000x16_0_1_1_1 (fun _ b => b) x idx upd i
      = if hc : (i 1).val < 16 then upd (entry (i 0) ⟨(i 1).val, hc⟩) else x i := by
  -- where an update lands, at index words 0 to 15
  have at_words : ∀ (r : Fin 50000) (k : Fin 16),
      scatter_S50000x256_S16x1_S50000x16_0_1_1_1.resultIdx? (entry r k) idx = some i ↔ r.val = (i 0).val ∧ k.val = (i 1).val := by
    intro r k
    rw [lands, h]
    omega
  by_cases hc : (i 1).val < 16
  · rw [dif_pos hc]
    refine Routing.scatter_set_hit _ x idx upd i _ (fun j hj => ?_) (entry (i 0) ⟨(i 1).val, hc⟩) ((at_words _ _).2 ⟨rfl, rfl⟩)
    obtain ⟨e0, e1⟩ := (at_words (j 0) (j 1)).1 ((congrArg (fun q => ScatterDims.resultIdx? _ q idx) (entry_eta j)).trans hj)
    exact congrArg upd ((entry_eta j).symm.trans (congrArg₂ entry (Fin.ext e0) (Fin.ext e1)))
  · rw [dif_neg hc]
    refine Routing.scatter_set_miss _ x idx upd i fun j hj => hc ?_
    have e1 := ((at_words (j 0) (j 1)).1 ((congrArg (fun q => ScatterDims.resultIdx? _ q idx) (entry_eta j)).trans hj)).2
    have hj1 : (j 1).val < 16 := (j 1).isLt
    omega

/-- A column number below 16 is not negative, and jnp's wrap leaves it. -/
theorem wrap_target : ∀ k : Fin 16, (Scalar.select (IntOp.cmpi .slt (BitVec.ofNat 32 k.val) 0#32)
    (IntOp.addi (BitVec.ofNat 32 k.val) 256#32) (BitVec.ofNat 32 k.val)).toInt = (k.val : Int) := by decide

/-- Its negative, wrapped, is the source column. -/
theorem wrap_source : ∀ k : Fin 16, (Scalar.select (IntOp.cmpi .slt (-BitVec.ofNat 32 k.val) 0#32)
    (IntOp.addi (-BitVec.ofNat 32 k.val) 256#32) (-BitVec.ofNat 32 k.val)).toInt = ((source k.val).val : Int) := by decide

/-- A vector of 16 index words as a column has at word `k` its entry `k`. -/
theorem column_apply (v : IVec S16 32) (k : Fin 16) : broadcastInDim S16x1 ![0] bcast_S16_S16x1_0 v (word k) = v (lane k) :=
  congrArg v (funext fun a => match a with | ⟨0, _⟩ => rfl)

/-- A vector of 16 numbers spread over the rows has in column `k` its entry `k`. -/
theorem spread_apply (y : FVec Ideal S16 .f32) (r : Fin 50000) (k : Fin 16) :
    broadcastInDim S50000x16 ![0, 1] bcast_S1x16_S50000x16_0_1 (broadcastInDim S1x16 ![1] bcast_S16_S1x16_1 y) (entry r k) = y (lane k) :=
  congrArg y (funext fun a => match a with | ⟨0, _⟩ => rfl)

/-- The 16 new columns as the reference computes them: the gathered columns less the means, over the scales. -/
def updates (x : FVec Ideal S50000x256 .f32) (mean scale : FVec Ideal S16 .f32) (inds : IVec S16 32) : FVec Ideal S50000x16 .f32 :=
  Host.divf (subf (Host.gather gather_S50000x256_S16x1_S50000x16_0_1_n_n_1_1_500001 x
      (broadcastInDim S16x1 ![0] bcast_S16_S16x1_0 (select (cmpi .slt (negi inds) (broadcastInDim S16 ![] bcast_S_S16 (constantI S_ 32 0#32)))
        (addi (negi inds) (broadcastInDim S16 ![] bcast_S_S16 (constantI S_ 32 256#32))) (negi inds))))
      (broadcastInDim S50000x16 ![0, 1] bcast_S1x16_S50000x16_0_1 (broadcastInDim S1x16 ![1] bcast_S16_S1x16_1 mean)))
    (broadcastInDim S50000x16 ![0, 1] bcast_S1x16_S50000x16_0_1 (broadcastInDim S1x16 ![1] bcast_S16_S1x16_1 scale))

/-- At column numbers 0 to 15, entry `(r, k)` is the matrix's entry in the source column of `k`, less mean `k`, over scale `k`. -/
theorem updates_apply (x : FVec Ideal S50000x256 .f32) (mean scale : FVec Ideal S16 .f32) (inds : IVec S16 32)
    (h : ∀ k, inds (lane k) = BitVec.ofNat 32 k.val) (r : Fin 50000) (k : Fin 16) :
    updates x mean scale inds (entry r k) = Ideal.div (x (cell r (source k.val)) - mean (lane k)) (scale (lane k)) := by
  show Ideal.div (Host.gather _ x _ (entry r k) - broadcastInDim _ _ _ _ (entry r k)) (broadcastInDim _ _ _ _ (entry r k)) = _
  rw [gather_apply x _ r k (source k.val), spread_apply, spread_apply]
  rw [column_apply]
  show (Scalar.select (IntOp.cmpi .slt (-inds (lane k)) 0#32) (IntOp.addi (-inds (lane k)) 256#32) (-inds (lane k))).toInt = _
  rw [h]
  exact wrap_source k

/-- THE REFERENCE'S VALUE: at column numbers 0 to 15 it is the function `scaled` of the matrix, means and scales. -/
theorem value_eq (x : FVec Ideal S50000x256 .f32) (mean scale : FVec Ideal S16 .f32) (inds : IVec S16 32)
    (h : ∀ k, inds (lane k) = BitVec.ofNat 32 k.val) :
    Host.scatter scatter_S50000x256_S16x1_S50000x16_0_1_1_1 (fun _ b => b) x
        (broadcastInDim S16x1 ![0] bcast_S16_S16x1_0 (select (cmpi .slt inds (broadcastInDim S16 ![] bcast_S_S16 (constantI S_ 32 0#32)))
          (addi inds (broadcastInDim S16 ![] bcast_S_S16 (constantI S_ 32 256#32))) inds))
        (updates x mean scale inds)
      = scaled (R := 50000) x (fun k => mean (lane k)) (fun k => scale (lane k)) := by
  funext i
  refine (scatter_apply x _ _ (fun k => ?_) i).trans ?_
  · rw [column_apply]
    show (Scalar.select (IntOp.cmpi .slt (inds (lane k)) 0#32) (IntOp.addi (inds (lane k)) 256#32) (inds (lane k))).toInt = _
    rw [h]
    exact wrap_target k
  · unfold scaled
    by_cases hc : (i 1).val < 16
    · rw [dif_pos hc, dif_pos hc]
      exact updates_apply x mean scale inds h (i 0) ⟨(i 1).val, hc⟩
    · rw [dif_neg hc, dif_neg hc]

end Cert.Scaler.Ref

end
-- ==== Proof.lean ====
/-
  THE CLAIM, assembled. Kernel and reference both end with the function `scaled` of their arguments: the kernel on every
  input (Scaler/Array.lean), the reference where the column numbers are 0 to 15 in order (Scaler/Reference.lean), which is
  what the precondition says.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_first_columns
public import proofs.«01_k».proof.Proof.Gen.KernelIdeal.Value
public import proofs.«01_k».proof.Proof.Gen.ReferenceIdeal.Run
public import proofs.«01_k».proof.Proof.Scaler.Array
public import proofs.«01_k».proof.Proof.Scaler.Reference
public import Idealize.ShloMosaic.Lib.Quiescent
public import Idealize.ShloMosaic.Lib.ReduceAll
public import Idealize.ShloMosaic.Adequacy
public import Idealize.ShloMosaic.Init

@[expose] public section

noncomputable section

namespace Cert.Proof

open Idealize.ShloMosaic Idealize.ShloMosaic.TcCoe Idealize.SL.Sem

/-- Where the precondition holds, column number `k` is `k`. -/
theorem inds_eq (x : FVec Ideal Cert.Pre_first_columns.S50000x256 .f32) (mean scale : FVec Ideal Cert.Pre_first_columns.S16 .f32)
    (inds : IVec Cert.Pre_first_columns.S16 32) (h : Cert.Pre_first_columns.fn x mean scale inds = fun _ => 1#1) (k : Fin 16) :
    inds (Cert.Scaler.lane k) = BitVec.ofNat 32 k.val := by
  haveI : Subsingleton Cert.Pre_first_columns.S_.Idx := ⟨fun a b => funext fun i => i.elim0⟩
  have e := Host.reduce_andi_all _ _ _ _ (fun i => i.elim0) (congrFun h fun i => i.elim0) (Cert.Scaler.lane k)
  change IntOp.cmpi .eq (inds (Cert.Scaler.lane k)) (BitVec.ofNat 32 k.val) = 1#1 at e
  rw [WordCmp.cmpi_eq_eq, WordCmp.ofBool_decide_eq_one_iff] at e
  exact e

/-- The printed kernel's frame. -/
theorem frame_kernel : Cert.quiescent_Kernel := fun m ρ _ => Cert.Kernel.Gen.frame m ρ

/-- The kernel's frame over the extended reals, -/
theorem frame_ideal : Cert.quiescent_KernelIdeal := fun m ρ _ => Cert.KernelIdeal.Gen.frame m ρ

/-- also where the precondition holds. -/
theorem frame_ideal_pre : Cert.quiescent_KernelIdeal_pre_first_columns := fun m ρ _ => Cert.KernelIdeal.Gen.frame m ρ

/-- The reference's frame: its run leaves the arguments unchanged, and it declares no semaphore; -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- also where the precondition holds. -/
theorem frame_reference_pre : Cert.quiescent_ReferenceIdeal_pre_first_columns := fun m ρ _ => frame_reference m ρ trivial

/-- THE EQUATION: where the column numbers are 0 to 15 in order, kernel and reference end with the same array over the
    extended reals, the function `scaled` of the arguments. -/
theorem algebraic : Cert.algebraic_KernelIdeal_ReferenceIdeal_pre_first_columns := by
  intro m ρ m' ρ' hpre hagree
  refine ⟨fun c => Cert.Scaler.result m c, Cert.Scaler.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3⟩ := hagree c
  rw [e0, e1, e2, e3]
  exact Cert.Scaler.Ref.value_eq _ _ _ _ (inds_eq _ _ _ _ (hpre c))

/-- Every claim. -/
theorem claim : Cert.Claim :=
  ⟨Cert.Kernel.Gen.facts, Cert.KernelIdeal.Gen.facts, Cert.ReferenceIdeal.Gen.facts, Cert.Pre_first_columns.Gen.facts,
    frame_kernel, frame_ideal, frame_ideal_pre, frame_reference, frame_reference_pre, trivial, algebraic⟩

end Cert.Proof

end
